-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x26 : Shape := ⟨2, ![4096, 26]⟩
abbrev S26x4096 : Shape := ⟨2, ![26, 4096]⟩
abbrev S26x1x4096 : Shape := ⟨3, ![26, 1, 4096]⟩
abbrev S26000x4096 : Shape := ⟨2, ![26000, 4096]⟩
abbrev S1x1x4096 : Shape := ⟨3, ![1, 1, 4096]⟩
abbrev S200x4096 : Shape := ⟨2, ![200, 4096]⟩
abbrev S1x4096 : Shape := ⟨2, ![1, 4096]⟩
abbrev S26x1000x4096 : Shape := ⟨3, ![26, 1000, 4096]⟩
abbrev S4096x26x1000 : Shape := ⟨3, ![4096, 26, 1000]⟩

abbrev nBuf : Space → Nat
  | .hbm => 6
  | .vmem => 4
  | .smem => 0
  | _ => 0

abbrev bufTy : (tb : Table) → Fin (tcTables nBuf tb) → BufTy
  | .hbm, ⟨0, _⟩ => ⟨S4096x26, .i32⟩
  | .hbm, ⟨1, _⟩ => ⟨S26x4096, .i32⟩
  | .hbm, ⟨2, _⟩ => ⟨S26x1x4096, .i32⟩
  | .hbm, ⟨3, _⟩ => ⟨S26000x4096, .f32⟩
  | .hbm, ⟨4, _⟩ => ⟨S26x1000x4096, .f32⟩
  | .hbm, ⟨5, _⟩ => ⟨S4096x26x1000, .f32⟩
  | .local _ .vmem, ⟨0, _⟩ => ⟨S1x1x4096, .i32⟩
  | .local _ .vmem, ⟨1, _⟩ => ⟨S1x1x4096, .i32⟩
  | .local _ .vmem, ⟨2, _⟩ => ⟨S200x4096, .f32⟩
  | .local _ .vmem, ⟨3, _⟩ => ⟨S200x4096, .f32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![130], ![false]⟩

def cc0_transform_0 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x26 : Shape := ⟨2, ![4096, 26]⟩
abbrev S4096x26x1 : Shape := ⟨3, ![4096, 26, 1]⟩
abbrev S1x1x1000 : Shape := ⟨3, ![1, 1, 1000]⟩
abbrev S4096x26x1000 : Shape := ⟨3, ![4096, 26, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1x1x1000, .i32⟩
  | .hbm, ⟨3, _⟩ => ⟨S4096x26x1000, .i32⟩
  | .hbm, ⟨4, _⟩ => ⟨S4096x26x1000, .i32⟩
  | .hbm, ⟨5, _⟩ => ⟨S4096x26x1000, .i1⟩
  | .hbm, ⟨6, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.Table.lean ====
/-
  The transposed one-hot table: row `field * 1000 + value`, column `sample`, holds the indicator that the sample's
  index in that field equals that value.  The grid's 130 points write it as blocks of 200 rows, five blocks to a
  field; this module proves that the kernel's result array ends holding the whole table.
-/
module

public import proofs.«01_k».proof.Proof.Gen.KernelIdeal.Frame
public import Idealize.ShloMosaic.Lib.Pointwise
public import Idealize.ShloMosaic.Lib.Pipeline.Value
public import Idealize.ShloMosaic.Lib.Pipeline.ValueKit
public import Idealize.ShloMosaic.Lib.Claim

@[expose] public section

set_option maxRecDepth 16384

noncomputable section

namespace Cert.KernelIdeal.OneHot

open Cert.KernelIdeal Cert.KernelIdeal.Gen
open Idealize.ShloMosaic Idealize.ShloMosaic.TcCoe Idealize.SL.Sem
open Idealize.ShloMosaic.Pipeline (Dat)

variable {F : FTy → Type} [FloatOps F]

/-- The indicator of an equality of two words, as the kernel makes it: the comparison's bit widened to a word and
    converted to a float. -/
def hot (a b : BitVec 32) : F .f32 :=
  FloatOps.sitofp .f32 ((IntOp.cmpi .eq a b).setWidth 32)

/-- The transposed table of the indices `x` (sample by field): at row `r` and sample `l`, whether the index of sample
    `l` in field `r / 1000` is `r % 1000`. -/
def table (x : Vec F S4096x26 .i32) : Vec F S26000x4096 .f32 := fun i =>
  hot (BitVec.ofNat 32 ((i 0 : Nat) % 1000))
    (x (ix2 (n0 := 4096) (n1 := 26) (i 1) ⟨(i 0 : Nat) / 1000, by have : (i 0 : Nat) < 26000 := (i 0).isLt; omega⟩))

/-- The index maps over the grid: point `t` reads row `t / 5` of the indices and writes block `t` of the result. -/
theorem idx : ∀ t : Fin grid0.N, win0_0.index t = ![t.val / 5, 0, 0] ∧ win0_1.index t = ![t.val, 0] := by
  decide +kernel

/-- The point's one grid coordinate is the point. -/
theorem coord : ∀ t : Fin grid0.N, (grid0.coords t 0 : Nat) = t.val := by decide +kernel

/-- The number of a point's block among the five of its field: the floored remainder of the grid coordinate by five,
    spelt with the signed remainder and the correction of its sign. -/
def part (p : BitVec 32) : BitVec 32 :=
  Scalar.select
    (Scalar.andi (Scalar.xori (Scalar.cmpi .slt (Scalar.remsi p 5#32) 0#32) (Scalar.cmpi .slt 5#32 0#32))
      (Scalar.cmpi .ne (Scalar.remsi p 5#32) 0#32))
    (Scalar.addi (Scalar.remsi p 5#32) 5#32) (Scalar.remsi p 5#32)

/-- At a point of the grid that block's first index value is `p % 5` times 200. -/
theorem part_word : ∀ p : Fin 130, Scalar.muli (part (BitVec.ofNat 32 p.val)) 200#32 = BitVec.ofNat 32 (p.val % 5 * 200) := by
  decide +kernel

/-- Row `r` of block `p` stands for the index value `(200 p + r) % 1000`. -/
theorem row_word (p : Fin 130) (r : Fin 200) :
    IntOp.addi (BitVec.ofNat 32 r.val) (Scalar.muli (part (BitVec.ofNat 32 p.val)) 200#32)
      = BitVec.ofNat 32 ((p.val * 200 + r.val) % 1000) := by
  rw [part_word p]
  show BitVec.ofNat 32 r.val + BitVec.ofNat 32 (p.val % 5 * 200) = _
  rw [← BitVec.ofNat_add]
  congr 1
  omega

/-- What the body stores at row `r` and lane `l` of its block at grid point `i`: the indicator that the block's index
    in lane `l` is the row's index value. -/
theorem pay_apply (i : grid0.Coords) (v : Vec F S1x1x4096 .i32) (r : Fin 200) (l : Fin 4096) :
    k0_pay1 i v (ix2 r l) = hot (BitVec.ofNat 32 (((i 0 : Nat) * 200 + r.val) % 1000)) (v (ix3 0 0 l)) := by
  have h5 : Scalar.select (Scalar.cmpi .eq 5#32 0#32) 1#32 5#32 = 5#32 := by decide
  rw [← row_word (i 0) r]
  unfold part
  pointwise [k0_pay1, hot]
  rw [h5]

variable (m : (ℓ : Loc nD τ sig) → Buf (Elt F) ℓ)

/-- What the region reads: the argument transposed, with a unit axis between the two. -/
theorem entry_eq (c : Dev nD) :
    V m c main_v1 = shapeCast S26x1x4096
      (transpose S26x4096 [1, 0] (m ((c : Thread nD τ).loc main_arg0)) transposes_S4096x26_S26x4096_1_0)
      shapeCasts_S26x4096_S26x1x4096 := by
  entry_read
  rfl

/-- Point `t`'s block of the reshaped, transposed indices: lane `l` is the index of sample `l` in field `t / 5`. -/
theorem block_apply (c : Dev nD) (t : Fin cfg0.N) (l : Fin 4096) (f : Fin 26) (hf : f.val = t.val / 5) :
    iblk m c 0 t (ix3 0 0 l) = m ((c : Thread nD τ).loc main_arg0) (ix2 l f) := by
  blk_simp [iblk]
  show V m c main_v1 _ = _
  rw [entry_eq]
  pointwise
  blk_ext [idx t]

/-- The result array of the region after the run is the whole table of the argument. -/
theorem array_eq (c : Dev nD) :
    (dats m 0 c).arrAt 1 cfg0.N = table (m ((c : Thread nD τ).loc main_arg0)) := by
  refine (dats m 0 c).arrAt_eq_of_covers 1 _ (by decide +kernel) fun t hf y => ?_
  have ht : t.val < 130 := t.isLt.trans_eq N_0
  blk_simp
  rw [after0_1]
  frame_out
  idx_vars y
  rw [pay_apply, coord t, block_apply m c t y1 ⟨t.val / 5, by omega⟩ rfl]
  unfold table
  blk_simp [idx t]
  congr 1
  blk_ext [idx t]

end Cert.KernelIdeal.OneHot

end
-- ==== Proof.Result.lean ====
/-
  From the region's table to the program's result: the host lines after the region split the table's rows into field
  and value and bring the samples to the front.  This module reads the run's result array, and reads it at an index.
-/
module

public import proofs.«01_k».proof.Proof.Table
public import Idealize.ShloMosaic.Lib.Pipeline.FrameSuffix

@[expose] public section

set_option maxRecDepth 16384

noncomputable section

namespace Cert.KernelIdeal.OneHot

open Cert.KernelIdeal Cert.KernelIdeal.Gen
open Idealize.ShloMosaic Idealize.ShloMosaic.TcCoe Idealize.SL.Sem
open Idealize.ShloMosaic.Pipeline (Dat)

variable {F : FTy → Type} [FloatOps F]

/-- The program's result for the indices `x`: the table, its rows split into field and value, the samples in front. -/
def encoded (x : Vec F S4096x26 .i32) : Vec F S4096x26x1000 .f32 :=
  transpose S4096x26x1000 [2, 0, 1] (shapeCast S26x1000x4096 (table x) shapeCasts_S26000x4096_S26x1000x4096)
    transposes_S26x1000x4096_S4096x26x1000_2_0_1

/-- The result at sample `s`, field `f` and value `v` is the indicator that the sample's index in the field is `v`. -/
theorem encoded_apply (x : Vec F S4096x26 .i32) (s : Fin 4096) (f : Fin 26) (v : Fin 1000) :
    encoded x (ix3 s f v) = hot (BitVec.ofNat 32 v.val) (x (ix2 s f)) := by
  pointwise [encoded, table]
  have hv : (f.val * 1000 + v.val) % 1000 = v.val := by omega
  have hf : (⟨(f.val * 1000 + v.val) / 1000, by omega⟩ : Fin 26) = f := Fin.ext (by dsimp only; omega)
  rw [hv, hf]

variable (m : (ℓ : Loc nD τ sig) → Buf (Elt F) ℓ) (ρ : Dev nD → PrngReg)

/-- What the host lines after the region leave in the result array. -/
theorem tail_eq (c : Dev nD) :
    Pipeline.afterTail₀ cfgs (dats m) 0 (V0 m) [hostOps1] c main_v4 = encoded (m ((c : Thread nD τ).loc main_arg0)) := by
  have hA : Pipeline.withArrays spec0 c (V0 m c) (fun w => (dats m 0 c).arrAt w cfg0.N) (Proc.devRef .tc main_v2)
      = table (m ((c : Thread nD τ).loc main_arg0)) :=
    (Pipeline.withArrays_arr spec0 (by decide) c (V0 m c) (fun w => (dats m 0 c).arrAt w cfg0.N) 1).trans (array_eq m c)
  unfold Pipeline.afterTail₀
  simp only [List.flatten_cons, List.flatten_nil, List.append_nil]
  after_results
  rw [hA]
  rfl

/-- Every weakly fair execution of the kernel's program ends with the result array holding the one-hot encoding of the
    argument, and with the argument unchanged. -/
theorem run : θ_run defs (onTc (τ := τ) (main (F := F))) ⟨m, fun _ => 0, ρ⟩ fun r => ∀ c : Dev nD,
      r.2.mem ((c.tc : Thread nD τ).loc main_v4) = encoded (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c)⟩)
    (run_main m ρ)

end Cert.KernelIdeal.OneHot

end
-- ==== Proof.Agree.lean ====
/-
  The reference's one-hot encoding over the extended reals, element by element, and its equality with the kernel's:
  the reference compares the index with the value and converts the bit, the kernel compares the value with the index,
  widens the bit to a word and converts the word; both are 1 where the two are equal and 0 elsewhere.
-/
module

public import proofs.«01_k».proof.Defs
public import proofs.«01_k».proof.Proof.Result
public import proofs.«01_k».proof.Proof.Gen.ReferenceIdeal.Run
public import Idealize.ShloMosaic.PureOps.Ideal

@[expose] public section

set_option maxRecDepth 16384

noncomputable section

namespace Cert.OneHot

/-- A bit that is not one is zero. -/
theorem eq_zero_of_ne_one {b : BitVec 1} (h : b ≠ 1#1) : b = 0#1 := by revert h; revert b; decide

end Cert.OneHot

namespace Cert.ReferenceIdeal.OneHot

open Cert.OneHot Cert.ReferenceIdeal Cert.ReferenceIdeal.Gen
open Idealize.ShloMosaic Idealize.ShloMosaic.TcCoe Idealize.SL.Sem

/-- The reference's result as a function of the indices: the operations of its run, composed. -/
def encoded (x : Vec Ideal S4096x26 .i32) : FVec Ideal S4096x26x1000 .f32 :=
  uitofp .f32 (cmpi .eq
    (broadcastInDim S4096x26x1000 ![0, 1, 2] bcast_S4096x26x1_S4096x26x1000_0_1_2
      (broadcastInDim S4096x26x1 ![0, 1] bcast_S4096x26_S4096x26x1_0_1 x))
    (broadcastInDim S4096x26x1000 ![0, 1, 2] bcast_S1x1x1000_S4096x26x1000_0_1_2 (iotaInDim S1x1x1000 32 2)))

/-- The reference at an index: 1 where the sample's index in the field is the value, 0 elsewhere. -/
theorem encoded_apply (x : Vec Ideal S4096x26 .i32) (s : Fin 4096) (f : Fin 26) (v : Fin 1000) :
    encoded x (ix3 s f v) = (if x (ix2 s f) = BitVec.ofNat 32 v.val then (1 : EReal) else 0) := by
  pointwise [encoded]
  show (((IntOp.cmpi .eq (x (ix2 s f)) (BitVec.ofNat 32 v.val)).toNat : ℝ) : EReal) = _
  by_cases h : x (ix2 s f) = BitVec.ofNat 32 v.val
  · rw [if_pos h, IntOp.cmpi_eq.mpr h]
    norm_num
  · rw [if_neg h, eq_zero_of_ne_one fun e => h (IntOp.cmpi_eq.mp e)]
    norm_num

end Cert.ReferenceIdeal.OneHot

namespace Cert.KernelIdeal.OneHot

open Cert.OneHot Idealize.ShloMosaic

/-- Over the extended reals the kernel's indicator is 1 where its two words are equal and 0 elsewhere. -/
theorem hot_ideal (a b : BitVec 32) : hot (F := Ideal) a b = (if b = a then (1 : EReal) else 0) := by
  show ((((IntOp.cmpi .eq a b).setWidth 32).toInt : ℝ) : EReal) = _
  by_cases h : b = a
  · rw [if_pos h, IntOp.cmpi_eq.mpr h.symm]
    norm_num
  · rw [if_neg h, eq_zero_of_ne_one fun e => h (IntOp.cmpi_eq.mp e).symm]
    norm_num

/-- The kernel's encoding and the reference's are the same function of the indices. -/
theorem encoded_eq (x : Vec Ideal Cert.KernelIdeal.S4096x26 .i32) : encoded x = Cert.ReferenceIdeal.OneHot.encoded x := by
  funext j
  idx_vars j
  rw [encoded_apply, hot_ideal]
  exact (Cert.ReferenceIdeal.OneHot.encoded_apply x j0 j1 j2).symm

end Cert.KernelIdeal.OneHot

end
-- ==== Proof.lean ====
/-
  The certificate of the one-hot kernel: the frames of the kernel, of its idealization and of the reference, the
  idealization (which rewrites nothing), and the equality of kernel and reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates without fault, keeps its argument and leaves every semaphore at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the indices, kernel and reference end with the same one-hot encoding over the extended
    reals. -/
theorem algebraic : Cert.algebraic_KernelIdeal_ReferenceIdeal := by
  intro m ρ m' ρ' _ hagree
  refine ⟨fun c => Cert.KernelIdeal.OneHot.encoded (F := Ideal) (m (c.tc.loc Cert.KernelIdeal.main_arg0)),
    Cert.KernelIdeal.OneHot.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.KernelIdeal.OneHot.encoded_eq _).symm

/-- Every claim of the certificate. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
